-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.HalfStatement Cert.KernelIdeal.S2304x512
  ∧ IdealRules.bf16_pair.Statement Cert.KernelIdeal.S4608x512 Cert.KernelIdeal.S2304x512
  ∧ IdealRules.bf16_pair.HalfStatement Cert.KernelIdeal.S144x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x4608 : Shape := ⟨3, ![96, 1, 4608]⟩
abbrev S2304x36864 : Shape := ⟨2, ![2304, 36864]⟩
abbrev S288x36864 : Shape := ⟨2, ![288, 36864]⟩
abbrev S_ : Shape := ⟨0, ![]⟩
abbrev S96x2x2304 : Shape := ⟨3, ![96, 2, 2304]⟩
abbrev S96x2304x2 : Shape := ⟨3, ![96, 2304, 2]⟩
abbrev S96x4608 : Shape := ⟨2, ![96, 4608]⟩
abbrev S1x1 : Shape := ⟨2, ![1, 1]⟩
abbrev S96x36864 : Shape := ⟨2, ![96, 36864]⟩
abbrev S2304x512 : Shape := ⟨2, ![2304, 512]⟩
abbrev S288x512 : Shape := ⟨2, ![288, 512]⟩
abbrev S96x512 : Shape := ⟨2, ![96, 512]⟩
abbrev S4608x512 : Shape := ⟨2, ![4608, 512]⟩
abbrev S144x512 : Shape := ⟨2, ![144, 512]⟩
abbrev S144x1x512 : Shape := ⟨3, ![144, 1, 512]⟩
abbrev S144x16x512 : Shape := ⟨3, ![144, 16, 512]⟩

abbrev nBuf : Space → Nat
  | .hbm => 9
  | .vmem => 7
  | .smem => 1
  | _ => 0

abbrev bufTy : (tb : Table) → Fin (tcTables nBuf tb) → BufTy
  | .hbm, ⟨0, _⟩ => ⟨S96x1x4608, .bf16⟩
  | .hbm, ⟨1, _⟩ => ⟨S2304x36864, .i8⟩
  | .hbm, ⟨2, _⟩ => ⟨S288x36864, .fp8e4m3⟩
  | .hbm, ⟨3, _⟩ => ⟨S_, .f32⟩
  | .hbm, ⟨4, _⟩ => ⟨S96x2x2304, .bf16⟩
  | .hbm, ⟨5, _⟩ => ⟨S96x2304x2, .bf16⟩
  | .hbm, ⟨6, _⟩ => ⟨S96x4608, .bf16⟩
  | .hbm, ⟨7, _⟩ => ⟨S1x1, .f32⟩
  | .hbm, ⟨8, _⟩ => ⟨S96x36864, .bf16⟩
  | .local _ .vmem, ⟨0, _⟩ => ⟨S96x4608, .bf16⟩
  | .local _ .vmem, ⟨1, _⟩ => ⟨S2304x512, .i8⟩
  | .local _ .vmem, ⟨2, _⟩ => ⟨S2304x512, .i8⟩
  | .local _ .vmem, ⟨3, _⟩ => ⟨S288x512, .fp8e4m3⟩
  | .local _ .vmem, ⟨4, _⟩ => ⟨S288x512, .fp8e4m3⟩
  | .local _ .vmem, ⟨5, _⟩ => ⟨S96x512, .bf16⟩
  | .local _ .vmem, ⟨6, _⟩ => ⟨S96x512, .bf16⟩
  | .local _ .smem, ⟨0, _⟩ => ⟨S1x1, .f32⟩
  | _, _ => ⟨S96x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S96x1x4608 : Shape := ⟨3, ![96, 1, 4608]⟩
abbrev S2304x36864 : Shape := ⟨2, ![2304, 36864]⟩
abbrev S288x36864 : Shape := ⟨2, ![288, 36864]⟩
abbrev S_ : Shape := ⟨0, ![]⟩
abbrev S96x4608 : Shape := ⟨2, ![96, 4608]⟩
abbrev S1x1 : Shape := ⟨2, ![1, 1]⟩
abbrev S96x36864 : Shape := ⟨2, ![96, 36864]⟩
abbrev S144x36864 : Shape := ⟨2, ![144, 36864]⟩
abbrev S144x16x36864 : Shape := ⟨3, ![144, 16, 36864]⟩
abbrev S144x1x36864 : Shape := ⟨3, ![144, 1, 36864]⟩
abbrev S96x2304 : Shape := ⟨2, ![96, 2304]⟩

abbrev nBuf : Space → Nat
  | .hbm => 7
  | .vmem => 4
  | .smem => 1
  | _ => 0

abbrev bufTy : (tb : Table) → Fin (tcTables nBuf tb) → BufTy
  | .hbm, ⟨0, _⟩ => ⟨S96x1x4608, .bf16⟩
  | .hbm, ⟨1, _⟩ => ⟨S2304x36864, .i8⟩
  | .hbm, ⟨2, _⟩ => ⟨S288x36864, .fp8e4m3⟩
  | .hbm, ⟨3, _⟩ => ⟨S_, .f32⟩
  | .hbm, ⟨4, _⟩ => ⟨S96x4608, .bf16⟩
  | .hbm, ⟨5, _⟩ => ⟨S1x1, .f32⟩
  | .hbm, ⟨6, _⟩ => ⟨S96x36864, .bf16⟩
  | .local _ .vmem, ⟨0, _⟩ => ⟨S96x4608, .bf16⟩
  | .local _ .vmem, ⟨1, _⟩ => ⟨S2304x36864, .i8⟩
  | .local _ .vmem, ⟨2, _⟩ => ⟨S288x36864, .fp8e4m3⟩
  | .local _ .vmem, ⟨3, _⟩ => ⟨S96x36864, .bf16⟩
  | .local _ .smem, ⟨0, _⟩ => ⟨S1x1, .f32⟩
  | _, _ => ⟨S96x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x36864 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x36864 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x36864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Decode.lean ====
/-
  ONE FOUR-BIT CODE. The kernel and the reference decode a four-bit float (one sign bit, three bits of magnitude out of
  0, 1/2, 1, 3/2, 2, 3, 4, 6) in two ways: the kernel compares the code with 1, …, 15 in turn and selects one of sixteen constants,
  the reference tests the four bits one by one and takes the magnitude from zero when the sign bit is set. `kernelDecode` and
  `refDecode` are the two texts on one 32-bit code; `decode_low`, `decode_high`: they agree on the low and on the high half of
  every byte. The sign of a zero is not seen at the ideal values.
-/
module

public import Idealize.ShloMosaic.PureOps.Ideal

@[expose] public section

noncomputable section

namespace Cert.Proof.Decode

open Idealize.ShloMosaic

/-- The kernel's value of a code: the code compared with 1, …, 15 in turn, each with its own constant. -/
def kernelDecode (c : BitVec 32) : Ideal .bf16 :=
  Scalar.select (IntOp.cmpi .eq c 15#32) (Scalar.ofBits .bf16 0xC0C0#16) <|
  Scalar.select (IntOp.cmpi .eq c 14#32) (Scalar.ofBits .bf16 0xC080#16) <|
  Scalar.select (IntOp.cmpi .eq c 13#32) (Scalar.ofBits .bf16 0xC040#16) <|
  Scalar.select (IntOp.cmpi .eq c 12#32) (Scalar.ofBits .bf16 0xC000#16) <|
  Scalar.select (IntOp.cmpi .eq c 11#32) (Scalar.ofBits .bf16 0xBFC0#16) <|
  Scalar.select (IntOp.cmpi .eq c 10#32) (Scalar.ofBits .bf16 0xBF80#16) <|
  Scalar.select (IntOp.cmpi .eq c 9#32) (Scalar.ofBits .bf16 0xBF00#16) <|
  Scalar.select (IntOp.cmpi .eq c 8#32) (Scalar.ofBits .bf16 0x8000#16) <|
  Scalar.select (IntOp.cmpi .eq c 7#32) (Scalar.ofBits .bf16 0x40C0#16) <|
  Scalar.select (IntOp.cmpi .eq c 6#32) (Scalar.ofBits .bf16 0x4080#16) <|
  Scalar.select (IntOp.cmpi .eq c 5#32) (Scalar.ofBits .bf16 0x4040#16) <|
  Scalar.select (IntOp.cmpi .eq c 4#32) (Scalar.ofBits .bf16 0x4000#16) <|
  Scalar.select (IntOp.cmpi .eq c 3#32) (Scalar.ofBits .bf16 0x3FC0#16) <|
  Scalar.select (IntOp.cmpi .eq c 2#32) (Scalar.ofBits .bf16 0x3F80#16) <|
  Scalar.select (IntOp.cmpi .eq c 1#32) (Scalar.ofBits .bf16 0x3F00#16) (Scalar.ofBits .bf16 0x0000#16)

/-- The reference's test of one bit of a code. -/
def bit (c b : BitVec 32) : BitVec 1 := IntOp.cmpi .ne (IntOp.andi c b) 0#32

/-- The reference's magnitude of a code: selected by bit 2, then bit 1, then bit 0. -/
def refMag (c : BitVec 32) : Ideal .bf16 :=
  Scalar.select (bit c 4#32)
    (Scalar.select (bit c 2#32)
      (Scalar.select (bit c 1#32) (Scalar.ofBits .bf16 0x40C0#16) (Scalar.ofBits .bf16 0x4080#16))
      (Scalar.select (bit c 1#32) (Scalar.ofBits .bf16 0x4040#16) (Scalar.ofBits .bf16 0x4000#16)))
    (Scalar.select (bit c 2#32)
      (Scalar.select (bit c 1#32) (Scalar.ofBits .bf16 0x3FC0#16) (Scalar.ofBits .bf16 0x3F80#16))
      (Scalar.select (bit c 1#32) (Scalar.ofBits .bf16 0x3F00#16) (Scalar.ofBits .bf16 0x0000#16)))

/-- The reference's value of a code: the magnitude, taken from zero when bit 3 is set. -/
def refDecode (c : BitVec 32) : Ideal .bf16 :=
  Scalar.select (bit c 8#32) (FloatOps.subf (Scalar.ofBits .bf16 0x0000#16) (refMag c)) (refMag c)

/-- The low half of a byte, as a 32-bit code. -/
def low (b : BitVec 8) : BitVec 32 := IntOp.andi (b.setWidth 32) 15#32

/-- The high half of a byte, as a 32-bit code. -/
def high (b : BitVec 8) : BitVec 32 := IntOp.shrsi .vector (b.setWidth 32) 4#32

/-- A pattern with its sign bit set is zero minus the pattern without it, for the eight magnitudes of the code. -/
theorem neg_eq (b : BitVec 16) (h : b ∈ [0x0000#16, 0x3F00#16, 0x3F80#16, 0x3FC0#16, 0x4000#16, 0x4040#16, 0x4080#16, 0x40C0#16]) :
    (Scalar.ofBits .bf16 (b ||| 0x8000#16) : Ideal .bf16)
      = FloatOps.subf (Scalar.ofBits .bf16 0x0000#16) (Scalar.ofBits .bf16 b) := by
  show Ideal.ofBits .bf16 (b ||| 0x8000#16) = Ideal.ofBits .bf16 0x0000#16 - Ideal.ofBits .bf16 b
  fin_cases h <;> simp [Ideal.ofBits, Ideal.ieee]

/-- On each of the sixteen codes the two decoders have the same value. -/
theorem decode_eq (n : Fin 16) : kernelDecode (BitVec.ofNat 32 n.val) = refDecode (BitVec.ofNat 32 n.val) := by
  fin_cases n
  iterate 8 exact rfl
  · exact neg_eq 0x0000#16 (by decide)
  · exact neg_eq 0x3F00#16 (by decide)
  · exact neg_eq 0x3F80#16 (by decide)
  · exact neg_eq 0x3FC0#16 (by decide)
  · exact neg_eq 0x4000#16 (by decide)
  · exact neg_eq 0x4040#16 (by decide)
  · exact neg_eq 0x4080#16 (by decide)
  · exact neg_eq 0x40C0#16 (by decide)

/-- The low half of a byte is one of the sixteen codes. -/
theorem low_code : ∀ b : BitVec 8, ∃ n : Fin 16, low b = BitVec.ofNat 32 n.val := by decide +kernel

/-- The high half of a byte is one of the sixteen codes. -/
theorem high_code : ∀ b : BitVec 8, ∃ n : Fin 16, high b = BitVec.ofNat 32 n.val := by decide +kernel

/-- The two decoders agree on the low half of every byte. -/
theorem decode_low (b : BitVec 8) : kernelDecode (low b) = refDecode (low b) := by
  obtain ⟨n, hn⟩ := low_code b
  rw [hn, decode_eq]

/-- The two decoders agree on the high half of every byte. -/
theorem decode_high (b : BitVec 8) : kernelDecode (high b) = refDecode (high b) := by
  obtain ⟨n, hn⟩ := high_code b
  rw [hn, decode_eq]

/-- A weight: a decoded value times its scale. -/
abbrev weight (v s : EReal) : EReal := v * s

/-- One term of a product with scaled weights: an element of `x` times a weight. -/
abbrev term (x v s : EReal) : EReal := x * weight v s

end Cert.Proof.Decode

end
-- ==== Proof.Block.lean ====
/-
  WHAT ONE BLOCK OF THE KERNEL COMPUTES, at the ideal values: the body decodes the two halves of every byte of its block, lays the
  low halves on the even rows and the high halves on the odd rows of a [4608, 512] matrix, does the same with the scales, each of
  them on sixteen rows of one parity, multiplies the two, and stores the product of `x` with the result times the global scale.
-/
module

public import proofs.«01_k».proof.Proof.Gen.KernelIdeal.Skeleton
public import proofs.«01_k».proof.Proof.Decode
public import Idealize.ShloMosaic.Lib.Pointwise
public import Idealize.ShloMosaic.Lib.Pipeline.Value

@[expose] public section

noncomputable section

namespace Cert.KernelIdeal.RefValue

open Cert.KernelIdeal Cert.KernelIdeal.Gen Idealize.ShloMosaic Cert.Proof.Decode

/-- The kernel's decoded low halves of a block of bytes, at an index. -/
theorem low_apply (w : Vec Ideal S2304x512 .i8) (i : S2304x512.Idx) :
    k0_pay6 (k0_pay3 w) (k0_pay4 w) k0_pay5 i = kernelDecode (low (w i)) := rfl

/-- The last three selections of the high halves' decoding, of the codes `c`: 13 where `b` holds, 14 and 15. -/
def last3 (c : IVec S2304x512 32) (v : FVec Ideal S2304x512 .bf16) (b : IVec S2304x512 1) : FVec Ideal S2304x512 .bf16 :=
  select (cmpi .eq c (broadcast S2304x512 15#32)) (broadcast S2304x512 (Scalar.ofBits .bf16 0xC0C0#16))
    (select (cmpi .eq c (broadcast S2304x512 14#32)) (broadcast S2304x512 (Scalar.ofBits .bf16 0xC080#16))
      (select b (broadcast S2304x512 (Scalar.ofBits .bf16 0xC040#16)) v))

/-- The high halves of a block of bytes, decoded as the kernel does. -/
def highs (w : Vec Ideal S2304x512 .i8) : FVec Ideal S2304x512 .bf16 :=
  last3 (k0_pay7 (k0_pay2 (F := Ideal) w))
    (k0_pay10 (k0_pay7 (k0_pay2 (F := Ideal) w)) (k0_pay8 (k0_pay2 (F := Ideal) w)) (k0_pay9 (k0_pay2 (F := Ideal) w)))
    (k0_pay11 (k0_pay7 (k0_pay2 (F := Ideal) w)))

/-- The kernel's decoded high halves of a block of bytes, at an index. -/
theorem high_apply (w : Vec Ideal S2304x512 .i8) (i : S2304x512.Idx) : highs w i = kernelDecode (high (w i)) := rfl

/-- Sixteen copies of a [144, 512] vector laid side by side on a new middle axis. -/
def copies16 (v : FVec Ideal S144x512 .bf16) : FVec Ideal S144x16x512 .bf16 :=
  concatenate S144x16x512 1
    (List.ofFn fun _ : Fin 16 => (⟨S144x1x512, shapeCast S144x1x512 v shapeCasts_S144x512_S144x1x512⟩ : (s : Shape) × (s.Idx → Ideal .bf16)))
    concatenates_S144x1x512_S144x1x512_S144x1x512_S144x1x512_S144x1x512_S144x1x512_S144x1x512_S144x1x512_S144x1x512_S144x1x512_S144x1x512_S144x1x512_S144x1x512_S144x1x512_S144x1x512_S144x1x512_S144x16x512_d1

/-- Each copy is the vector. -/
theorem copies16_apply (v : FVec Ideal S144x512 .bf16) (q : Fin 144) (k : Fin 16) (n : Fin 512) :
    copies16 v (ix3 q k n) = v (ix2 q n) := by
  unfold copies16
  refine (concatenate_ofFn_unit_apply (t := S144x16x512) (s₁ := S144x1x512) 1 (fun _ : Fin 16 => shapeCast S144x1x512 v shapeCasts_S144x512_S144x1x512)
    _ rfl rfl (ix3 q k n) k rfl (ix3 q 0 n) ?_).trans ?_
  · intro b hb
    match b with
    | ⟨0, _⟩ => rfl
    | ⟨1, _⟩ => exact absurd rfl hb
    | ⟨2, _⟩ => rfl
  · pointwise

/-- Each row of `v` sixteen times over: the copies laid out again as a matrix. -/
def rows16 (v : FVec Ideal S144x512 .bf16) : FVec Ideal S2304x512 .bf16 :=
  shapeCast S2304x512 (copies16 v) shapeCasts_S144x16x512_S2304x512

/-- Row `r` of the sixteen-fold rows is row `r / 16`. -/
theorem rows16_apply (v : FVec Ideal S144x512 .bf16) (r : Fin 2304) (n : Fin 512) :
    rows16 v (ix2 r n) = v (ix2 ⟨r.val / 16, by omega⟩ n) := by
  unfold rows16
  pointwise
  exact copies16_apply v ..

/-- The [4608, 512] weights of a block: the decoded low halves on the even rows and the high halves on the odd ones, times the
    scales, each scale on sixteen rows of one parity. -/
def weights (lo hi : FVec Ideal S2304x512 .bf16) (s : Vec Ideal S288x512 .fp8e4m3) : FVec Ideal S4608x512 .bf16 :=
  mulf (interleaveRows S4608x512 lo hi bitcasts_S4608x512_w16_S2304x512_w32)
    (interleaveRows S4608x512
      (rows16 (extractStridedSlice S144x512 ![0, 0] (extf .bf16 s bitsLt_fp8e4m3_bf16) slices_S288x512_o0_0_S144x512))
      (rows16 (extractStridedSlice S144x512 ![144, 0] (extf .bf16 s bitsLt_fp8e4m3_bf16) slices_S288x512_o144_0_S144x512))
      bitcasts_S4608x512_w16_S2304x512_w32)

/-- The product of a block of `x` with the weights, times the global scale. -/
def stored (lo hi : FVec Ideal S2304x512 .bf16) (s : Vec Ideal S288x512 .fp8e4m3) (x : Vec Ideal S96x4608 .bf16) (g : Elt Ideal .f32) :
    FVec Ideal S96x512 .bf16 :=
  truncf .bf16 (mulf (matmul dot_S96x4608_S4608x512_S96x512_1_0_0_1_n_n none
      (shapeCast S96x4608 x shapeCasts_S96x4608_S96x4608 : FVec Ideal S96x4608 .bf16) (weights lo hi s) (constant S96x512 .f32 0x00000000#32))
      (broadcast S96x512 g)) bitsLt_bf16_f32

/-- It is what the kernel stores. -/
theorem pay1_eq (lo v : FVec Ideal S2304x512 .bf16) (c : IVec S2304x512 32) (b : IVec S2304x512 1) (s : Vec Ideal S288x512 .fp8e4m3)
    (x : Vec Ideal S96x4608 .bf16) (g : Elt Ideal .f32) :
    k0_pay1 lo c v b s x g = stored lo (last3 c v b) s x g := rfl

/-- An even row of the weights. -/
theorem weights_even (lo hi : FVec Ideal S2304x512 .bf16) (s : Vec Ideal S288x512 .fp8e4m3) (r : Fin 2304) (n : Fin 512) :
    weights lo hi s (ix2 ⟨2 * r.val, by omega⟩ n)
      = weight (lo (ix2 r n)) (s (ix2 ⟨r.val / 16, by omega⟩ n)) := by
  pointwise [weights, rows16_apply]
  have e : 2 * r.val / 2 = r.val := by omega
  simp only [Nat.mul_mod_right, if_true, e]

/-- An odd row of the weights. -/
theorem weights_odd (lo hi : FVec Ideal S2304x512 .bf16) (s : Vec Ideal S288x512 .fp8e4m3) (r : Fin 2304) (n : Fin 512) :
    weights lo hi s (ix2 ⟨2 * r.val + 1, by omega⟩ n)
      = weight (hi (ix2 r n)) (s (ix2 ⟨144 + r.val / 16, by omega⟩ n)) := by
  pointwise [weights, rows16_apply]
  have e : (2 * r.val + 1) / 2 = r.val := by omega
  have o : ¬(2 * r.val + 1) % 2 = 0 := by omega
  simp only [if_neg o, e]

/-- The stored block at an index: the product's 4608 terms in pairs of an even and an odd row, times the global scale. -/
theorem stored_apply (lo hi : FVec Ideal S2304x512 .bf16) (s : Vec Ideal S288x512 .fp8e4m3) (x : Vec Ideal S96x4608 .bf16)
    (g : EReal) (a : Fin 96) (n : Fin 512) :
    stored lo hi s x g (ix2 a n)
      = (∑ r : Fin 2304,
          (term (x (ix2 a ⟨2 * r.val, by omega⟩)) (lo (ix2 r n)) (s (ix2 ⟨r.val / 16, by omega⟩ n))
            + term (x (ix2 a ⟨2 * r.val + 1, by omega⟩)) (hi (ix2 r n)) (s (ix2 ⟨144 + r.val / 16, by omega⟩ n)))) * g := by
  pointwise [stored]
  rw [Fin.sum_univ_tiles 2304 2 rfl]
  simp only [Fin.sum_univ_two]
  refine Ideal.mul_congr (Finset.sum_congr rfl fun r _ => ?_) rfl
  refine Ideal.add_congr ?_ ?_
  · rw [term, ← weights_even]; congr 3 <;> (try exact Fin.ext (by simp; omega))
  · rw [term, ← weights_odd]; congr 3 <;> (try exact Fin.ext (by simp; omega))

end Cert.KernelIdeal.RefValue

end
-- ==== Proof.KernelArray.lean ====
/-
  WHAT THE KERNEL'S RESULT ARRAY HOLDS, at the ideal values.
-/
module

public import proofs.«01_k».proof.Proof.Gen.KernelIdeal.Value
public import proofs.«01_k».proof.Proof.Block
public import Idealize.ShloMosaic.Lib.Claim

@[expose] public section

noncomputable section

open Idealize.ShloMosaic Idealize.ShloMosaic.TcCoe Idealize.SL.Sem

namespace Cert.KernelIdeal.RefValue

open Cert.KernelIdeal Cert.KernelIdeal.Gen Cert.Proof.Decode

theorem hz : (![0, 0] : Fin 2 → Nat) = fun _ => 0 := funext fun a => by fin_cases a <;> rfl

/-- What the body leaves in the output's staging buffer: the payload of its one store, over the four input blocks. -/
theorem out_A (c : Dev nD) (i : grid0.Coords) (a1 : Memref sig .tc .vmem S96x4608 .bf16) (h1 : a1.IsWhole)
    (a2 : Memref sig .tc .vmem S2304x512 .i8) (h2 : a2.IsWhole) (a3 : Memref sig .tc .vmem S288x512 .fp8e4m3) (h3 : a3.IsWhole)
    (a4 : Memref sig .tc .smem S1x1 .f32) (h4 : a4.IsWhole) (a5 : Memref sig .tc .vmem S96x512 .bf16) (h5 : a5.IsWhole)
    (x : Vec Ideal S96x4608 .bf16) (w : Vec Ideal S2304x512 .i8) (s : Vec Ideal S288x512 .fp8e4m3) (g : Vec Ideal S1x1 .f32) :
    out0_A_4 c i a1 h1 a2 h2 a3 h3 a4 h4 a5 h5 x w s g
      = stored (k0_pay6 (k0_pay3 w) (k0_pay4 w) k0_pay5) (highs w) s x (g (ix2 0 0)) := by
  unfold out0_A_4
  rw [View.read_writes_eq_canon _ _ _ (cover0_A_4 c i a1 h1 a2 h2 a3 h3 a4 h4 a5 h5 x w s g)]
  unfold kernelRun0_A
  dsimp only
  sl_unfold_words
  rw [View.canon_unit_zero hz]
  simp only [View.readAt_eq_ld, h1.read_unread, h2.read_unread, h3.read_unread, h4.read_unread, View.ld_unit_zero (S := S96x4608) hz,
    View.ld_unit_zero (S := S2304x512) hz, View.ld_unit_zero (S := S288x512) hz, View.ld_unit_zero (S := S1x1) hz, shapeCast_self]
  refine congrArg (stored _ (highs w) s x) ?_
  exact congrArg g (funext fun a => Fin.ext (by match a with | ⟨0, _⟩ => rfl | ⟨1, _⟩ => rfl))

variable (m : (ℓ : Loc nD τ sig) → Buf (Elt Ideal) ℓ) (ρ : Dev nD → PrngReg)

/-- The block indices: `x` has one block, the bytes, the scales and the result a block of 512 columns
    per grid point. -/
theorem index_0 : ∀ t : Fin cfg0.N, win0_0.index t 0 = 0 ∧ win0_0.index t 1 = 0 :=
  (by decide +kernel : ∀ t : Fin grid0.N, win0_0.index t 0 = 0 ∧ win0_0.index t 1 = 0)
theorem index_1 : ∀ t : Fin cfg0.N, win0_1.index t 0 = 0 ∧ win0_1.index t 1 = t.val :=
  (by decide +kernel : ∀ t : Fin grid0.N, win0_1.index t 0 = 0 ∧ win0_1.index t 1 = t.val)
theorem index_2 : ∀ t : Fin cfg0.N, win0_2.index t 0 = 0 ∧ win0_2.index t 1 = t.val :=
  (by decide +kernel : ∀ t : Fin grid0.N, win0_2.index t 0 = 0 ∧ win0_2.index t 1 = t.val)
theorem index_4 : ∀ t : Fin cfg0.N, win0_4.index t 0 = 0 ∧ win0_4.index t 1 = t.val :=
  (by decide +kernel : ∀ t : Fin grid0.N, win0_4.index t 0 = 0 ∧ win0_4.index t 1 = t.val)

/-- There are 72 grid points. -/
theorem point_lt (t : Fin cfg0.N) : t.val < 72 := lt_of_lt_of_eq t.isLt (by decide)

/-- The block of `x` is the re-ordered `x`. -/
theorem iblk0_apply (c : Dev nD) (t : Fin cfg0.N) (a : Fin 96) (k : Fin 4608) :
    (iblk m c 0 t : Vec Ideal S96x4608 .bf16) (ix2 a k) = V m c main_v2 (ix2 a k) := by
  unfold iblk
  rw [View.read_apply]
  show V m c main_v2 _ = _
  congr 1
  funext d
  apply Fin.ext
  match d with
  | ⟨0, _⟩ => show win0_0.index t 0 * 96 + 1 * a.val = a.val; rw [(index_0 t).1]; omega
  | ⟨1, _⟩ => show win0_0.index t 1 * 4608 + 1 * k.val = k.val; rw [(index_0 t).2]; omega

/-- The block of bytes at point `t` is columns `512 t …` of the bytes. -/
theorem iblk1_apply (c : Dev nD) (t : Fin cfg0.N) (r : Fin 2304) (n : Fin 512) :
    (iblk m c 1 t : Vec Ideal S2304x512 .i8) (ix2 r n)
      = m ((c : Thread nD τ).loc main_arg1) (ix2 r ⟨512 * t.val + n.val, by have := point_lt t; omega⟩) := by
  unfold iblk
  rw [View.read_apply]
  show V m c main_arg1 _ = _
  rw [V_main_arg1]
  congr 1
  funext d
  apply Fin.ext
  match d with
  | ⟨0, _⟩ => show win0_1.index t 0 * 2304 + 1 * r.val = r.val; rw [(index_1 t).1]; omega
  | ⟨1, _⟩ => show win0_1.index t 1 * 512 + 1 * n.val = 512 * t.val + n.val; rw [(index_1 t).2]; omega

/-- The block of scales at point `t` is columns `512 t …` of the scales. -/
theorem iblk2_apply (c : Dev nD) (t : Fin cfg0.N) (q : Fin 288) (n : Fin 512) :
    (iblk m c 2 t : Vec Ideal S288x512 .fp8e4m3) (ix2 q n)
      = m ((c : Thread nD τ).loc main_arg2) (ix2 q ⟨512 * t.val + n.val, by have := point_lt t; omega⟩) := by
  unfold iblk
  rw [View.read_apply]
  show V m c main_arg2 _ = _
  rw [V_main_arg2]
  congr 1
  funext d
  apply Fin.ext
  match d with
  | ⟨0, _⟩ => show win0_2.index t 0 * 288 + 1 * q.val = q.val; rw [(index_2 t).1]; omega
  | ⟨1, _⟩ => show win0_2.index t 1 * 512 + 1 * n.val = 512 * t.val + n.val; rw [(index_2 t).2]; omega

/-- The even columns of the re-ordered `x` hold the first half of a row of `x`, -/
theorem iblk0_even (c : Dev nD) (t : Fin cfg0.N) (a : Fin 96) (r : Fin 2304) :
    (iblk m c 0 t : Vec Ideal S96x4608 .bf16) (ix2 a ⟨2 * r.val, by omega⟩)
      = m ((c : Thread nD τ).loc main_arg0) (ix3 a 0 ⟨r.val, by omega⟩) := by
  rw [iblk0_apply]
  entry_read
  pointwise
  exact congrArg (m ((c : Thread nD τ).loc main_arg0)) (congrArg (ix3 a 0) (Fin.ext (by dsimp only; omega)))

/-- and the odd columns the second half. -/
theorem iblk0_odd (c : Dev nD) (t : Fin cfg0.N) (a : Fin 96) (r : Fin 2304) :
    (iblk m c 0 t : Vec Ideal S96x4608 .bf16) (ix2 a ⟨2 * r.val + 1, by omega⟩)
      = m ((c : Thread nD τ).loc main_arg0) (ix3 a 0 ⟨2304 + r.val, by omega⟩) := by
  rw [iblk0_apply]
  entry_read
  pointwise
  exact congrArg (m ((c : Thread nD τ).loc main_arg0)) (congrArg (ix3 a 0) (Fin.ext (by dsimp only; omega)))

/-- The global scale's block holds the global scale. -/
theorem iblk3_apply (c : Dev nD) (t : Fin cfg0.N) :
    (iblk m c 3 t : Vec Ideal S1x1 .f32) (ix2 0 0) = m ((c : Thread nD τ).loc main_arg3) ix0 := by
  unfold iblk
  rw [View.read_apply]
  show V m c main_v3 _ = _
  entry_read
  pointwise

/-- The kernel's result as a function of its arguments: at row `a` and column `n`, over the 2304 byte rows, the low half's
    term and the high half's term added, times the global scale. -/
def out (x : S96x1x4608.Idx → EReal) (w : S2304x36864.Idx → BitVec 8) (s : S288x36864.Idx → EReal) (g : EReal)
    (a : Fin 96) (n : Fin 36864) : EReal :=
  (∑ r : Fin 2304,
    (term (x (ix3 a 0 ⟨r.val, by omega⟩)) (kernelDecode (low (w (ix2 r n)))) (s (ix2 ⟨r.val / 16, by omega⟩ n))
      + term (x (ix3 a 0 ⟨2304 + r.val, by omega⟩)) (kernelDecode (high (w (ix2 r n)))) (s (ix2 ⟨144 + r.val / 16, by omega⟩ n)))) * g

/-- The result array of device `c`. -/
def result (c : Dev nD) : Buf (Elt Ideal) ((c : Thread nD τ).loc main_v4) := fun j : S96x36864.Idx =>
  out (m ((c : Thread nD τ).loc main_arg0)) (m ((c : Thread nD τ).loc main_arg1)) (m ((c : Thread nD τ).loc main_arg2))
    (m ((c : Thread nD τ).loc main_arg3) ix0) (j 0) (j 1)

/-- What the body leaves at point `t`, at an index: column `512 t + n` of the result. -/
theorem outsAt_apply (c : Dev nD) (t : Fin cfg0.N) (a : Fin 96) (n : Fin 512) :
    outsAt0 m c t (ix2 a n) = result m c (ix2 a ⟨512 * t.val + n.val, by have := point_lt t; omega⟩) := by
  unfold outsAt0
  rw [out_A, iblk3_apply, stored_apply]
  simp only [low_apply, high_apply, iblk0_even, iblk0_odd, iblk1_apply, iblk2_apply]
  rfl

/-- Point `t` writes back block `t` of the result. -/
theorem flushed_eq (c : Dev nD) (t : Fin cfg0.N) :
    (dats m 0 c).flushed 4 t = ((cfg0.win 4).blk t).view.read (Elt Ideal) (result m c) := by
  rw [Value.flushed4]
  funext j
  obtain ⟨a, n, rfl⟩ : ∃ (a : Fin 96) (n : Fin 512), j = ix2 a n := ⟨j 0, j 1, eq_ix2 j⟩
  refine (outsAt_apply m c t a n).trans ?_
  rw [View.read_apply]
  show result m c _ = result m c _
  congr 1
  funext d
  apply Fin.ext
  match d with
  | ⟨0, _⟩ => show a.val = win0_4.index t 0 * 96 + 1 * a.val; rw [(index_4 t).1]; omega
  | ⟨1, _⟩ => show 512 * t.val + n.val = win0_4.index t 1 * 512 + 1 * n.val; rw [(index_4 t).2]; omega

/-- The 72 blocks of 512 columns fill the array, so it ends holding the result. -/
theorem final (c : Dev nD) : (dats m 0 c).arrAt 4 cfg0.N = result m c :=
  (dats m 0 c).arrAt_eq_of_cover 4 (result m c) (fun t _ => flushed_eq m c t) fun i => by
    have h0 : (i 0 : Nat) < 96 := (i 0).isLt
    have h1 : (i 1 : Nat) < 36864 := (i 1).isLt
    let t : Fin cfg0.N := ⟨(i 1 : Nat) / 512, lt_of_lt_of_eq (by omega : (i 1 : Nat) / 512 < 72) (by decide)⟩
    refine ⟨t, flush0_4 t, ?_⟩
    show i ∈ ((View.whole main_v4).slice (win0_4.rect t)).set
    rw [View.set_slice_whole, Rect.mem_set_unit]
    intro d
    match d with
    | ⟨0, _⟩ =>
      show win0_4.index t 0 * 96 ≤ (i 0 : Nat) ∧ (i 0 : Nat) < win0_4.index t 0 * 96 + 96
      rw [(index_4 t).1]; omega
    | ⟨1, _⟩ =>
      show win0_4.index t 1 * 512 ≤ (i 1 : Nat) ∧ (i 1 : Nat) < win0_4.index t 1 * 512 + 512
      rw [(index_4 t).2]
      show (i 1 : Nat) / 512 * 512 ≤ (i 1 : Nat) ∧ (i 1 : Nat) < (i 1 : Nat) / 512 * 512 + 512
      omega

/-- The run, read: the result array at the result, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.RefValue

end
-- ==== Proof.RefBlock.lean ====
/-
  WHAT THE REFERENCE COMPUTES, at the ideal values: its one block is the whole arrays.
-/
module

public import proofs.«01_k».proof.Proof.Gen.ReferenceIdeal.Skeleton
public import proofs.«01_k».proof.Proof.Decode
public import Idealize.ShloMosaic.Lib.Pointwise
public import Idealize.ShloMosaic.Lib.Pipeline.Value

@[expose] public section

noncomputable section

namespace Cert.ReferenceIdeal.RefValue

open Cert.ReferenceIdeal Cert.ReferenceIdeal.Gen Idealize.ShloMosaic Cert.Proof.Decode

/-- One half's decoded values before the scales: the signed select of the reference's text. -/
def signed (neg : IVec S2304x36864 1) (mag : FVec Ideal S2304x36864 .bf16) : FVec Ideal S2304x36864 .bf16 :=
  select neg (subf (broadcast S2304x36864 (Scalar.ofBits .bf16 0x0000#16)) mag) mag

/-- The low halves decoded, at an index. -/
theorem low_apply (w : Vec Ideal S2304x36864 .i8) (i : S2304x36864.Idx) :
    signed (k0_pay6 w) (select (k0_pay7 w) (k0_pay10 w) (k0_pay11 w)) i = refDecode (low (w i)) := rfl

/-- The high halves decoded, at an index. -/
theorem high_apply (w : Vec Ideal S2304x36864 .i8) (i : S2304x36864.Idx) :
    signed (k0_pay14 (k0_pay4 w)) (k0_pay15 (F := Ideal) (k0_pay4 w)) i = refDecode (high (w i)) := rfl

/-- The weights of one half: the values, sixteen rows to a group, times the group's scale. -/
def weights (v : FVec Ideal S2304x36864 .bf16) (s : FVec Ideal S144x36864 .fp8e4m3) : FVec Ideal S2304x36864 .bf16 :=
  shapeCast S2304x36864
    (mulf (φ := .bf16) (shapeCast S144x16x36864 v shapeCasts_S2304x36864_S144x16x36864)
      (broadcastTo S144x16x36864
        (shapeCast S144x1x36864 (extf .bf16 s bitsLt_fp8e4m3_bf16 : FVec Ideal S144x36864 .bf16) shapeCasts_S144x36864_S144x1x36864)
        broadcasts_S144x1x36864_S144x16x36864))
    shapeCasts_S144x16x36864_S2304x36864

/-- A weight is its value times its group's scale. -/
theorem weights_apply (v : FVec Ideal S2304x36864 .bf16) (s : FVec Ideal S144x36864 .fp8e4m3) (r : Fin 2304) (n : Fin 36864) :
    weights v s (ix2 r n)
      = weight (v (ix2 r n)) (s (ix2 ⟨r.val / 16, by omega⟩ n)) := by
  pointwise [weights]

/-- The low halves' weights, as the reference computes them. -/
theorem pay12_eq (s : FVec Ideal S144x36864 .fp8e4m3) (neg b : IVec S2304x36864 1) (u v : FVec Ideal S2304x36864 .bf16) :
    k0_pay12 s neg b u v = weights (signed neg (select b u v)) s := rfl

/-- The scales of the low halves are the first 144 rows of the scales, -/
theorem scales_low (s : Vec Ideal S288x36864 .fp8e4m3) (q : Fin 144) (n : Fin 36864) :
    k0_pay5 s (ix2 q n) = s (ix2 ⟨q.val, by omega⟩ n) := by
  pointwise [k0_pay5]

/-- and those of the high halves the last 144. -/
theorem scales_high (s : Vec Ideal S288x36864 .fp8e4m3) (q : Fin 144) (n : Fin 36864) :
    k0_pay13 s (ix2 q n) = s (ix2 ⟨144 + q.val, by omega⟩ n) := by
  pointwise [k0_pay13]

/-- The stored array: the two halves' products added, times the global scale. -/
theorem pay1_eq (wl mag : FVec Ideal S2304x36864 .bf16) (s : FVec Ideal S144x36864 .fp8e4m3) (neg : IVec S2304x36864 1)
    (x : Vec Ideal S96x4608 .bf16) (g : Elt Ideal .f32) :
    k0_pay1 wl s neg mag (Scalar.ofBits .bf16 0x0000#16) x g
      = truncf .bf16 (mulf
          (addf
            (matmul dot_S96x2304_S2304x36864_S96x36864_1_0_0_1_n_n none
              (extractStridedSlice S96x2304 ![0, 0] (shapeCast S96x4608 x shapeCasts_S96x4608_S96x4608) slices_S96x4608_o0_0_S96x2304 : FVec Ideal S96x2304 .bf16)
              wl (constant S96x36864 .f32 0x00000000#32))
            (matmul dot_S96x2304_S2304x36864_S96x36864_1_0_0_1_n_n none
              (extractStridedSlice S96x2304 ![0, 2304] (shapeCast S96x4608 x shapeCasts_S96x4608_S96x4608) slices_S96x4608_o0_2304_S96x2304 : FVec Ideal S96x2304 .bf16)
              (weights (signed neg mag) s) (constant S96x36864 .f32 0x00000000#32)))
          (broadcast S96x36864 g)) bitsLt_bf16_f32 := rfl

/-- The stored array at an index: the two halves' sums of terms added, times the global scale. -/
theorem pay1_apply (vl mag : FVec Ideal S2304x36864 .bf16) (sl sh : FVec Ideal S144x36864 .fp8e4m3) (neg : IVec S2304x36864 1)
    (x : Vec Ideal S96x4608 .bf16) (g : EReal) (a : Fin 96) (n : Fin 36864) :
    k0_pay1 (weights vl sl) sh neg mag (Scalar.ofBits .bf16 0x0000#16) x g (ix2 a n)
      = ((∑ r : Fin 2304, term (x (ix2 a ⟨r.val, by omega⟩)) (vl (ix2 r n)) (sl (ix2 ⟨r.val / 16, by omega⟩ n)))
          + ∑ r : Fin 2304, term (x (ix2 a ⟨2304 + r.val, by omega⟩)) (signed neg mag (ix2 r n)) (sh (ix2 ⟨r.val / 16, by omega⟩ n)))
        * g := by
  rw [pay1_eq]
  pointwise [weights_apply]

end Cert.ReferenceIdeal.RefValue

end
-- ==== Proof.RefArray.lean ====
/-
  WHAT THE REFERENCE'S RESULT ARRAY HOLDS, at the ideal values.
-/
module

public import proofs.«01_k».proof.Proof.Gen.ReferenceIdeal.Value
public import proofs.«01_k».proof.Proof.RefBlock
public import Idealize.ShloMosaic.Lib.Claim

@[expose] public section

noncomputable section

open Idealize.ShloMosaic Idealize.ShloMosaic.TcCoe Idealize.SL.Sem

namespace Cert.ReferenceIdeal.RefValue

open Cert.ReferenceIdeal Cert.ReferenceIdeal.Gen Cert.Proof.Decode

theorem hz : (![0, 0] : Fin 2 → Nat) = fun _ => 0 := funext fun a => by fin_cases a <;> rfl

/-- What the body leaves in the output's buffer: the payload of its one store, over the four input arrays. -/
theorem out_A (c : Dev nD) (a0 : Memref sig .tc .vmem S96x4608 .bf16) (h0 : a0.IsWhole)
    (a1 : Memref sig .tc .vmem S2304x36864 .i8) (h1 : a1.IsWhole) (a2 : Memref sig .tc .vmem S288x36864 .fp8e4m3) (h2 : a2.IsWhole)
    (a3 : Memref sig .tc .smem S1x1 .f32) (h3 : a3.IsWhole) (a4 : Memref sig .tc .vmem S96x36864 .bf16) (h4 : a4.IsWhole)
    (x : Vec Ideal S96x4608 .bf16) (w : Vec Ideal S2304x36864 .i8) (s : Vec Ideal S288x36864 .fp8e4m3) (g : Vec Ideal S1x1 .f32) :
    out0_A_4 c a0 h0 a1 h1 a2 h2 a3 h3 a4 h4 x w s g
      = k0_pay1 (weights (signed (k0_pay6 w) (select (k0_pay7 w) (k0_pay10 w) (k0_pay11 w))) (k0_pay5 s)) (k0_pay13 s)
          (k0_pay14 (k0_pay4 w)) (k0_pay15 (F := Ideal) (k0_pay4 w)) (Scalar.ofBits .bf16 0x0000#16) x (g (ix2 0 0)) := by
  unfold out0_A_4
  rw [View.read_writes_eq_canon _ _ _ (cover0_A_4 c a0 h0 a1 h1 a2 h2 a3 h3 a4 h4 x w s g)]
  unfold kernelRun0_A
  dsimp only
  sl_unfold_words
  rw [View.canon_unit_zero hz]
  simp only [View.readAt_eq_ld, h0.read_unread, h1.read_unread, h2.read_unread, h3.read_unread, View.ld_unit_zero (S := S96x4608) hz,
    View.ld_unit_zero (S := S2304x36864) hz, View.ld_unit_zero (S := S288x36864) hz, View.ld_unit_zero (S := S1x1) hz, shapeCast_self,
    pay12_eq]
  refine congrArg (k0_pay1 _ _ _ _ _ x) ?_
  exact congrArg g (funext fun a => Fin.ext (by match a with | ⟨0, _⟩ => rfl | ⟨1, _⟩ => rfl))

variable (m : (ℓ : Loc nD τ sig) → Buf (Elt Ideal) ℓ) (ρ : Dev nD → PrngReg)

/-- Every block index is zero: the one block of each array is the array. -/
theorem index_0 : ∀ t : Fin cfg0.N, win0_0.index t 0 = 0 ∧ win0_0.index t 1 = 0 :=
  (by decide +kernel : ∀ t : Fin grid0.N, win0_0.index t 0 = 0 ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)

/-- The block of `x` is `x`. -/
theorem iblk0_apply (c : Dev nD) (t : Fin cfg0.N) (a : Fin 96) (k : Fin 4608) :
    (iblk m c 0 t : Vec Ideal S96x4608 .bf16) (ix2 a k) = m ((c : Thread nD τ).loc main_arg0) (ix3 a 0 k) := by
  have e : (iblk m c 0 t : Vec Ideal S96x4608 .bf16) (ix2 a k) = V m c main_v0 (ix2 a k) := by
    unfold iblk
    rw [View.read_apply]
    show V m c main_v0 _ = _
    congr 1
    funext d
    apply Fin.ext
    match d with
    | ⟨0, _⟩ => show win0_0.index t 0 * 96 + 1 * a.val = a.val; rw [(index_0 t).1]; omega
    | ⟨1, _⟩ => show win0_0.index t 1 * 4608 + 1 * k.val = k.val; rw [(index_0 t).2]; omega
  rw [e]
  entry_read
  pointwise

/-- The block of bytes is the bytes. -/
theorem iblk1_apply (c : Dev nD) (t : Fin cfg0.N) (r : Fin 2304) (n : Fin 36864) :
    (iblk m c 1 t : Vec Ideal S2304x36864 .i8) (ix2 r n) = m ((c : Thread nD τ).loc main_arg1) (ix2 r n) := by
  unfold iblk
  rw [View.read_apply]
  show V m c main_arg1 _ = _
  rw [V_main_arg1]
  congr 1
  funext d
  apply Fin.ext
  match d with
  | ⟨0, _⟩ => show win0_1.index t 0 * 2304 + 1 * r.val = r.val; rw [(index_1 t).1]; omega
  | ⟨1, _⟩ => show win0_1.index t 1 * 36864 + 1 * n.val = n.val; rw [(index_1 t).2]; omega

/-- The block of scales is the scales. -/
theorem iblk2_apply (c : Dev nD) (t : Fin cfg0.N) (q : Fin 288) (n : Fin 36864) :
    (iblk m c 2 t : Vec Ideal S288x36864 .fp8e4m3) (ix2 q n) = m ((c : Thread nD τ).loc main_arg2) (ix2 q n) := by
  unfold iblk
  rw [View.read_apply]
  show V m c main_arg2 _ = _
  rw [V_main_arg2]
  congr 1
  funext d
  apply Fin.ext
  match d with
  | ⟨0, _⟩ => show win0_2.index t 0 * 288 + 1 * q.val = q.val; rw [(index_2 t).1]; omega
  | ⟨1, _⟩ => show win0_2.index t 1 * 36864 + 1 * n.val = n.val; rw [(index_2 t).2]; omega

/-- The global scale's block holds the global scale. -/
theorem iblk3_apply (c : Dev nD) (t : Fin cfg0.N) :
    (iblk m c 3 t : Vec Ideal S1x1 .f32) (ix2 0 0) = m ((c : Thread nD τ).loc main_arg3) ix0 := by
  unfold iblk
  rw [View.read_apply]
  show V m c main_v1 _ = _
  entry_read
  pointwise

/-- The reference's result as a function of its arguments: the low halves' sum of terms over the first half of a row of `x`, plus the
    high halves' over the second half, times the global scale. -/
def out (x : S96x1x4608.Idx → EReal) (w : S2304x36864.Idx → BitVec 8) (s : S288x36864.Idx → EReal) (g : EReal)
    (a : Fin 96) (n : Fin 36864) : EReal :=
  ((∑ r : Fin 2304, term (x (ix3 a 0 ⟨r.val, by omega⟩)) (refDecode (low (w (ix2 r n)))) (s (ix2 ⟨r.val / 16, by omega⟩ n)))
    + ∑ r : Fin 2304,
        term (x (ix3 a 0 ⟨2304 + r.val, by omega⟩)) (refDecode (high (w (ix2 r n)))) (s (ix2 ⟨144 + r.val / 16, by omega⟩ n))) * g

/-- The result array of device `c`. -/
def result (c : Dev nD) : Buf (Elt Ideal) ((c : Thread nD τ).loc main_v2) := fun j : S96x36864.Idx =>
  out (m ((c : Thread nD τ).loc main_arg0)) (m ((c : Thread nD τ).loc main_arg1)) (m ((c : Thread nD τ).loc main_arg2))
    (m ((c : Thread nD τ).loc main_arg3) ix0) (j 0) (j 1)

/-- What the body leaves, at an index. -/
theorem outsAt_apply (c : Dev nD) (t : Fin cfg0.N) (a : Fin 96) (n : Fin 36864) :
    outsAt0 m c t (ix2 a n) = result m c (ix2 a n) := by
  unfold outsAt0
  rw [out_A, iblk3_apply, pay1_apply]
  simp only [low_apply, high_apply, scales_low, scales_high, iblk0_apply, iblk1_apply, iblk2_apply]
  rfl

/-- The one write-back writes the result. -/
theorem flushed_eq (c : Dev nD) (t : Fin cfg0.N) :
    (dats m 0 c).flushed 4 t = ((cfg0.win 4).blk t).view.read (Elt Ideal) (result m c) := by
  rw [Value.flushed4]
  funext j
  obtain ⟨a, n, rfl⟩ : ∃ (a : Fin 96) (n : Fin 36864), j = ix2 a n := ⟨j 0, j 1, eq_ix2 j⟩
  refine (outsAt_apply m c t a n).trans ?_
  rw [View.read_apply]
  show result m c _ = result m c _
  congr 1
  funext d
  apply Fin.ext
  match d with
  | ⟨0, _⟩ => show a.val = win0_4.index t 0 * 96 + 1 * a.val; rw [(index_4 t).1]; omega
  | ⟨1, _⟩ => show n.val = win0_4.index t 1 * 36864 + 1 * n.val; rw [(index_4 t).2]; omega

/-- The one block is the array, so it ends holding the result. -/
theorem final (c : Dev nD) : (dats m 0 c).arrAt 4 cfg0.N = result m c :=
  (dats m 0 c).arrAt_eq_of_cover 4 (result m c) (fun t _ => flushed_eq m c t) fun i => by
    have h0 : (i 0 : Nat) < 96 := (i 0).isLt
    have h1 : (i 1 : Nat) < 36864 := (i 1).isLt
    let t : Fin cfg0.N := ⟨0, by decide⟩
    refine ⟨t, flush0_4 t, ?_⟩
    show i ∈ ((View.whole main_v2).slice (win0_4.rect t)).set
    rw [View.set_slice_whole, Rect.mem_set_unit]
    intro d
    match d with
    | ⟨0, _⟩ =>
      show win0_4.index t 0 * 96 ≤ (i 0 : Nat) ∧ (i 0 : Nat) < win0_4.index t 0 * 96 + 96
      rw [(index_4 t).1]; omega
    | ⟨1, _⟩ =>
      show win0_4.index t 1 * 36864 ≤ (i 1 : Nat) ∧ (i 1 : Nat) < win0_4.index t 1 * 36864 + 36864
      rw [(index_4 t).2]; omega

/-- The run, read: the result array at the result, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.ReferenceIdeal.RefValue

end
-- ==== Proof.Equation.lean ====
/-
  THE EQUATION. The kernel adds, byte row by byte row, the low half's term and the high half's; the reference adds all the low
  halves' terms, then all the high halves', and adds the two sums. Addition of extended reals is commutative and associative, so
  the two are equal at the infinities too, and the two decoders agree on every half of a byte (Decode.lean).
-/
module

public import proofs.«01_k».proof.Proof.KernelArray
public import proofs.«01_k».proof.Proof.RefArray

@[expose] public section

noncomputable section

namespace Cert.Proof.Equation

open Idealize.ShloMosaic Cert.Proof.Decode
open Cert.KernelIdeal (S96x1x4608 S2304x36864 S288x36864)

/-- The kernel's and the reference's results are one function of the arguments, for all contents of the arguments. -/
theorem out_eq (x : S96x1x4608.Idx → EReal) (w : S2304x36864.Idx → BitVec 8) (s : S288x36864.Idx → EReal) (g : EReal)
    (a : Fin 96) (n : Fin 36864) :
    Cert.KernelIdeal.RefValue.out x w s g a n = Cert.ReferenceIdeal.RefValue.out x w s g a n := by
  unfold Cert.KernelIdeal.RefValue.out Cert.ReferenceIdeal.RefValue.out
  rw [Finset.sum_add_distrib]
  simp only [decode_low, decode_high]

end Cert.Proof.Equation

end
-- ==== Proof.lean ====
/-
  THE CERTIFICATE. The three frame claims are the generated frames; the idealization's claims are the two facts about rows packed in
  one word; the value claim puts together what the kernel's result array holds (KernelArray.lean), what the reference's holds
  (RefArray.lean) and the equation of the two (Equation.lean).
-/
module

public import proofs.«01_k».proof.Proof.Equation
public import Idealize.ShloMosaic.Lib.Bf16Pair
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The frame claims: from every memory each of the three programs runs to the end without a fault, leaves its arguments as they
    were, and ends with every semaphore at zero. -/
theorem frames : quiescent_Kernel ∧ quiescent_KernelIdeal ∧ quiescent_ReferenceIdeal :=
  ⟨fun m ρ _ => Cert.Kernel.Gen.frame m ρ, fun m ρ _ => Cert.KernelIdeal.Gen.frame m ρ,
    fun m ρ _ => Cert.ReferenceIdeal.Gen.frame m ρ⟩

/-- The idealized kernel is the kernel: two rows packed in one word are the two rows, and a row's patterns are the row. -/
theorem preserves : preserves_Kernel_KernelIdeal :=
  ⟨IdealRules.bf16_pair.halfStatement _, IdealRules.bf16_pair.statement _ _, IdealRules.bf16_pair.halfStatement _⟩

/-- The idealized kernel and the idealized reference, from equal arguments, end with equal results, and leave the arguments as they
    were. No precondition: the arguments may hold anything. -/
theorem algebraic : algebraic_KernelIdeal_ReferenceIdeal := by
  intro m ρ m' ρ' _ hm
  refine ⟨fun c => Cert.KernelIdeal.RefValue.result m c, Cert.KernelIdeal.RefValue.run m ρ,
    (θ_run _ _ _).mono (fun r h c => ⟨(h c).1.trans ?_, (h c).2⟩) (Cert.ReferenceIdeal.RefValue.run m' ρ')⟩
  obtain ⟨e0, e1, e2, e3⟩ := hm c
  unfold Cert.ReferenceIdeal.RefValue.result Cert.KernelIdeal.RefValue.result
  rw [e0, e1, e2, e3]
  exact funext fun j => (Equation.out_eq _ _ _ _ _ _).symm

/-- Everything claimed. -/
theorem claim : Cert.Claim :=
  ⟨Cert.Kernel.Gen.facts, Cert.KernelIdeal.Gen.facts, Cert.ReferenceIdeal.Gen.facts,
    frames.1, frames.2.1, frames.2.2, preserves, algebraic⟩

end Cert.Proof

end
